-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_boundaries [hPre_sorted_boundaries : Cert.Pre_sorted_boundaries.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_boundaries [hPre_sorted_boundaries : Cert.Pre_sorted_boundaries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_boundaries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_boundaries [hKernelIdeal : Cert.KernelIdeal.Facts] [hPre_sorted_boundaries : Cert.Pre_sorted_boundaries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_boundaries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_boundaries [hReferenceIdeal : Cert.ReferenceIdeal.Facts] [hPre_sorted_boundaries : Cert.Pre_sorted_boundaries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_boundaries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_boundaries [hKernelIdeal : Cert.KernelIdeal.Facts] [hReferenceIdeal : Cert.ReferenceIdeal.Facts] [hPre_sorted_boundaries : Cert.Pre_sorted_boundaries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_boundaries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_boundaries : Cert.Pre_sorted_boundaries.Facts),
    quiescent_Kernel (hKernel := hKernel)
    ∧ quiescent_KernelIdeal (hKernelIdeal := hKernelIdeal)
    ∧ quiescent_KernelIdeal_pre_sorted_boundaries (hKernelIdeal := hKernelIdeal) (hPre_sorted_boundaries := hPre_sorted_boundaries)
    ∧ quiescent_ReferenceIdeal (hReferenceIdeal := hReferenceIdeal)
    ∧ quiescent_ReferenceIdeal_pre_sorted_boundaries (hReferenceIdeal := hReferenceIdeal) (hPre_sorted_boundaries := hPre_sorted_boundaries)
    ∧ preserves_Kernel_KernelIdeal
    ∧ algebraic_KernelIdeal_ReferenceIdeal_pre_sorted_boundaries (hKernelIdeal := hKernelIdeal) (hReferenceIdeal := hReferenceIdeal) (hPre_sorted_boundaries := hPre_sorted_boundaries)
-- ==== Pre_sorted_boundaries.lean ====
abbrev S8192x4096 : Shape := ⟨2, ![8192, 4096]⟩
abbrev S4096x4096 : Shape := ⟨2, ![4096, 4096]⟩
abbrev S16 : Shape := ⟨1, ![16]⟩
abbrev S15 : Shape := ⟨1, ![15]⟩
abbrev S14 : Shape := ⟨1, ![14]⟩
abbrev S_ : Shape := ⟨0, ![]⟩

class Facts : Prop where
  slices_S15_S14_0 : S15.Slices ![0] S14
  slices_S15_S14_1 : S15.Slices ![1] S14
  reducesTo_S14_S_d0 : S14.ReducesTo [0] S_
  h_S_ : 0 < S_.numel

variable [Facts]

def fn {F : FTy → Type} [FloatOps F] (main_arg0 : FVec F S8192x4096 .f32) (main_arg1 : FVec F S4096x4096 .f32) (main_arg2 : FVec F S16 .f32) (main_arg3 : FVec F S15 .f32) : IVec S_ 1 :=
  let main_v0 : FVec F S14 .f32 := (extractStridedSlice S14 ![0] · slices_S15_S14_0) main_arg3
  let main_v1 : FVec F S14 .f32 := (extractStridedSlice S14 ![1] · slices_S15_S14_1) main_arg3
  let main_v2 : IVec S14 1 := cmpf .ole main_v0 main_v1
  let main_c : IVec S_ 1 := constantI S_ 1 1#1
  let main_v3 : IVec S_ 1 := (fun x v => Host.reduce IntOp.andi x v reducesTo_S14_S_d0 h_S_) main_v2 main_c
  main_v3
-- ==== Kernel.lean ====
abbrev S8192x4096 : Shape := ⟨2, ![8192, 4096]⟩
abbrev S4096x4096 : Shape := ⟨2, ![4096, 4096]⟩
abbrev S16 : Shape := ⟨1, ![16]⟩
abbrev S15 : Shape := ⟨1, ![15]⟩
abbrev S1024x4096 : Shape := ⟨2, ![1024, 4096]⟩
abbrev S4096x512 : Shape := ⟨2, ![4096, 512]⟩
abbrev S1024x512 : Shape := ⟨2, ![1024, 512]⟩
abbrev S1 : Shape := ⟨1, ![1]⟩
abbrev S1024x1024 : Shape := ⟨2, ![1024, 1024]⟩

abbrev nBuf : Space → Nat
  | .hbm => 8
  | .vmem => 14
  | .smem => 2
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S16, .f32⟩
  | .hbm, ⟨3, _⟩ => ⟨S15, .f32⟩
  | .hbm, ⟨4, _⟩ => ⟨S4096x4096, .bf16⟩
  | .hbm, ⟨5, _⟩ => ⟨S8192x4096, .i32⟩
  | .hbm, ⟨6, _⟩ => ⟨S8192x4096, .bf16⟩
  | .hbm, ⟨7, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x512, .bf16⟩
  | .local _ .vmem, ⟨3, _⟩ => ⟨S4096x512, .bf16⟩
  | .local _ .vmem, ⟨4, _⟩ => ⟨S1024x512, .i32⟩
  | .local _ .vmem, ⟨5, _⟩ => ⟨S1024x512, .i32⟩
  | .local _ .vmem, ⟨6, _⟩ => ⟨S1024x512, .bf16⟩
  | .local _ .vmem, ⟨7, _⟩ => ⟨S1024x512, .bf16⟩
  | .local _ .vmem, ⟨8, _⟩ => ⟨S1024x4096, .bf16⟩
  | .local _ .vmem, ⟨9, _⟩ => ⟨S1024x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1024x1024, .f32⟩
  | .local _ .vmem, ⟨13, _⟩ => ⟨S1024x1024, .f32⟩
  | .local _ .smem, ⟨0, _⟩ => ⟨S15, .f32⟩
  | .local _ .smem, ⟨1, _⟩ => ⟨S16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S15 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S8192x4096 : Shape := ⟨2, ![8192, 4096]⟩
abbrev S4096x4096 : Shape := ⟨2, ![4096, 4096]⟩
abbrev S16 : Shape := ⟨1, ![16]⟩
abbrev S15 : Shape := ⟨1, ![15]⟩
abbrev S1x1x15 : Shape := ⟨3, ![1, 1, 15]⟩
abbrev S8192x4096x1 : Shape := ⟨3, ![8192, 4096, 1]⟩
abbrev S8192x4096x15 : Shape := ⟨3, ![8192, 4096, 15]⟩
abbrev S_ : Shape := ⟨0, ![]⟩
abbrev S1 : Shape := ⟨1, ![1]⟩
abbrev S1x1x1 : Shape := ⟨3, ![1, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S16, .f32⟩
  | .hbm, ⟨3, _⟩ => ⟨S15, .f32⟩
  | .hbm, ⟨4, _⟩ => ⟨S8192x4096, .f32⟩
  | .hbm, ⟨5, _⟩ => ⟨S1x1x15, .f32⟩
  | .hbm, ⟨6, _⟩ => ⟨S8192x4096x1, .f32⟩
  | .hbm, ⟨7, _⟩ => ⟨S8192x4096x15, .f32⟩
  | .hbm, ⟨8, _⟩ => ⟨S8192x4096x15, .f32⟩
  | .hbm, ⟨9, _⟩ => ⟨S8192x4096x15, .i1⟩
  | .hbm, ⟨10, _⟩ => ⟨S8192x4096x15, .i32⟩
  | .hbm, ⟨11, _⟩ => ⟨S_, .i32⟩
  | .hbm, ⟨12, _⟩ => ⟨S8192x4096, .i32⟩
  | .hbm, ⟨13, _⟩ => ⟨S_, .i32⟩
  | .hbm, ⟨14, _⟩ => ⟨S8192x4096, .i32⟩
  | .hbm, ⟨15, _⟩ => ⟨S8192x4096, .i1⟩
  | .hbm, ⟨16, _⟩ => ⟨S_, .i32⟩
  | .hbm, ⟨17, _⟩ => ⟨S8192x4096, .i32⟩
  | .hbm, ⟨18, _⟩ => ⟨S8192x4096, .i32⟩
  | .hbm, ⟨19, _⟩ => ⟨S8192x4096, .i32⟩
  | .hbm, ⟨20, _⟩ => ⟨S8192x4096x1, .i32⟩
  | .hbm, ⟨21, _⟩ => ⟨S1, .i32⟩
  | .hbm, ⟨22, _⟩ => ⟨S_, .i32⟩
  | .hbm, ⟨23, _⟩ => ⟨S8192x4096x1, .i32⟩
  | .hbm, ⟨24, _⟩ => ⟨S8192x4096x1, .i1⟩
  | .hbm, ⟨25, _⟩ => ⟨S1x1x1, .i32⟩
  | .hbm, ⟨26, _⟩ => ⟨S8192x4096x1, .i32⟩
  | .hbm, ⟨27, _⟩ => ⟨S8192x4096x1, .i1⟩
  | .hbm, ⟨28, _⟩ => ⟨S8192x4096x1, .i1⟩
  | .hbm, ⟨29, _⟩ => ⟨S_, .i1⟩
  | .hbm, ⟨30, _⟩ => ⟨S8192x4096, .i1⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S4096x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩

abbrev nD : Nat := 1
abbrev τ : Topo := Topo.v7x

variable {F : FTy → Type} [FloatOps F]
-- ==== Proof.Sorted.lean ====
/-
  The precondition read: where its one bit is set, the boundaries do not decrease.
-/
module

public import proofs.«01_k».proof.Proof.Gen.Pre_sorted_boundaries
public import Idealize.ShloMosaic.Lib.ReduceAll
public import Idealize.ShloMosaic.Lib.ValueIdx
public import Idealize.ShloMosaic.Lib.Pointwise
public import Idealize.ShloMosaic.Lib.Tactic

@[expose] public section

noncomputable section

namespace Cert.Sorted

open Cert.Pre_sorted_boundaries Cert.Pre_sorted_boundaries.Gen Idealize.ShloMosaic

/-- Where the precondition's bit is set, every boundary is at most the next one. -/
theorem step (x0 : FVec Ideal S8192x4096 .f32) (x1 : FVec Ideal S4096x4096 .f32) (x2 : FVec Ideal S16 .f32)
    (b : FVec Ideal S15 .f32) (h : fn (F := Ideal) x0 x1 x2 b = fun _ => 1#1) (k : Fin 14) :
    (b (ix1 k.castSucc) : EReal) ≤ b (ix1 k.succ) := by
  haveI : Subsingleton S_.Idx := ⟨fun i j => funext fun a => a.elim0⟩
  have h1 := Host.reduce_andi_all _ _ _ _ (fun a => a.elim0) (congrFun h fun a => a.elim0) (ix1 k)
  have e0 : extractStridedSlice S14 ![0] b slices_S15_S14_0 (ix1 k) = b (ix1 k.castSucc) :=
    congrArg b (funext fun a => Fin.ext (by fin_cases a; exact Nat.zero_add _))
  have e1 : extractStridedSlice S14 ![1] b slices_S15_S14_1 (ix1 k) = b (ix1 k.succ) :=
    congrArg b (funext fun a => Fin.ext (by fin_cases a; exact Nat.add_comm _ _))
  have h2 : Ideal.cmp .ole (extractStridedSlice S14 ![0] b slices_S15_S14_0 (ix1 k) : EReal)
      (extractStridedSlice S14 ![1] b slices_S15_S14_1 (ix1 k)) = 1#1 := h1
  rw [e0, e1] at h2
  have h3 : BitVec.ofBool (decide ((b (ix1 k.castSucc) : EReal) ≤ b (ix1 k.succ))) = 1#1 := h2
  by_contra hn
  rw [decide_eq_false hn] at h3
  exact absurd h3 (by decide)

/-- Where the precondition's bit is set, the boundaries by position are monotone. -/
theorem monotone (x0 : FVec Ideal S8192x4096 .f32) (x1 : FVec Ideal S4096x4096 .f32) (x2 : FVec Ideal S16 .f32)
    (b : FVec Ideal S15 .f32) (h : fn (F := Ideal) x0 x1 x2 b = fun _ => 1#1) :
    Monotone fun k : Fin 15 => (b (ix1 k) : EReal) :=
  Fin.monotone_iff_le_succ.2 fun k => step x0 x1 x2 b h k

end Cert.Sorted

end
-- ==== Proof.Search.lean ====
/-
  The search in the level table, as plain mathematics: a four-step halving search through fifteen non-decreasing
  boundaries ends at the number of boundaries strictly below the searched value, and picks that entry of the table.
-/
module

public import Idealize.ShloMosaic.PureOps.Ideal
public import Mathlib.Data.EReal.Basic
public import Mathlib.Tactic.FinCases
public import Mathlib.Tactic.NormNum

@[expose] public section

noncomputable section

namespace Cert.Search

/-- The number of boundaries strictly below `y`. -/
def below (b : Fin 15 → EReal) (y : EReal) : ℕ := (Finset.univ.filter fun k => b k < y).card

/-- At most fifteen boundaries lie below a value. -/
theorem below_lt (b : Fin 15 → EReal) (y : EReal) : below b y < 16 :=
  Nat.lt_succ_of_le ((Finset.card_le_univ _).trans (by simp))

/-- In a non-decreasing table the boundaries below `y` are the first `below b y` of them. -/
theorem lt_iff_below {b : Fin 15 → EReal} (hb : Monotone b) (y : EReal) (k : Fin 15) : b k < y ↔ (k : ℕ) < below b y := by
  constructor
  · intro h
    have hsub : Finset.univ.filter (fun i : Fin 15 => i ≤ k) ⊆ Finset.univ.filter fun i => b i < y := by
      intro i hi
      simp only [Finset.mem_filter, Finset.mem_univ, true_and] at hi ⊢
      exact (hb hi).trans_lt h
    have hc := Finset.card_le_card hsub
    have : (Finset.univ.filter fun i : Fin 15 => i ≤ k).card = (k : ℕ) + 1 := by
      rw [show (Finset.univ.filter fun i : Fin 15 => i ≤ k) = Finset.Iic k from by ext; simp, Fin.card_Iic]
    unfold below; omega
  · intro h
    by_contra hn
    have hsub : (Finset.univ.filter fun i => b i < y) ⊆ Finset.univ.filter fun i : Fin 15 => i < k := by
      intro i hi
      simp only [Finset.mem_filter, Finset.mem_univ, true_and] at hi ⊢
      by_contra hik
      exact hn ((hb (not_lt.1 hik)).trans_lt hi)
    have hc := Finset.card_le_card hsub
    have : (Finset.univ.filter fun i : Fin 15 => i < k).card = (k : ℕ) := by
      rw [show (Finset.univ.filter fun i : Fin 15 => i < k) = Finset.Iio k from by ext; simp, Fin.card_Iio]
    unfold below at h; omega

/-! ## The halving search -/

/-- The first step: is `y` above the middle boundary? -/
def bit3 (b : Fin 15 → EReal) (y : EReal) : BitVec 1 := BitVec.ofBool (decide (b 7 < y))

/-- The second step: is `y` above the middle of the half the first step left? -/
def bit2 (b : Fin 15 → EReal) (y : EReal) : BitVec 1 :=
  BitVec.ofBool (decide ((if bit3 b y = 1#1 then b 11 else b 3) < y))

/-- The third step, in the quarter left. -/
def bit1 (b : Fin 15 → EReal) (y : EReal) : BitVec 1 :=
  BitVec.ofBool (decide ((if bit3 b y = 1#1 then (if bit2 b y = 1#1 then b 13 else b 9)
    else (if bit2 b y = 1#1 then b 5 else b 1)) < y))

/-- The last step, in the pair left. -/
def bit0 (b : Fin 15 → EReal) (y : EReal) : BitVec 1 :=
  BitVec.ofBool (decide ((if bit3 b y = 1#1
      then (if bit2 b y = 1#1 then (if bit1 b y = 1#1 then b 14 else b 12) else (if bit1 b y = 1#1 then b 10 else b 8))
      else (if bit2 b y = 1#1 then (if bit1 b y = 1#1 then b 6 else b 4) else (if bit1 b y = 1#1 then b 2 else b 0))) < y))

/-- The four answers read as a binary number. -/
def code (b : Fin 15 → EReal) (y : EReal) : BitVec 32 :=
  (((if bit3 b y = 1#1 then 8#32 else 0#32) ||| (if bit2 b y = 1#1 then 4#32 else 0#32))
    ||| (if bit1 b y = 1#1 then 2#32 else 0#32)) ||| (if bit0 b y = 1#1 then 1#32 else 0#32)

/-- The entry of a sixteen-entry table that the four answers select. -/
def entry (t : Fin 16 → EReal) (b : Fin 15 → EReal) (y : EReal) : EReal :=
  if bit3 b y = 1#1 then
    (if bit2 b y = 1#1 then
      (if bit1 b y = 1#1 then (if bit0 b y = 1#1 then t 15 else t 14) else (if bit0 b y = 1#1 then t 13 else t 12))
    else (if bit1 b y = 1#1 then (if bit0 b y = 1#1 then t 11 else t 10) else (if bit0 b y = 1#1 then t 9 else t 8)))
  else
    (if bit2 b y = 1#1 then
      (if bit1 b y = 1#1 then (if bit0 b y = 1#1 then t 7 else t 6) else (if bit0 b y = 1#1 then t 5 else t 4))
    else (if bit1 b y = 1#1 then (if bit0 b y = 1#1 then t 3 else t 2) else (if bit0 b y = 1#1 then t 1 else t 0)))

/-- If exactly the first `n` boundaries lie below `y`, the search answers `n` and selects entry `n`. -/
theorem search_of_count (b : Fin 15 → EReal) (t : Fin 16 → EReal) (y : EReal) (n : Fin 16)
    (h : ∀ k : Fin 15, b k < y ↔ (k : ℕ) < n) : code b y = BitVec.ofNat 32 n ∧ entry t b y = t n := by
  have h0 := h 0; have h1 := h 1; have h2 := h 2; have h3 := h 3; have h4 := h 4
  have h5 := h 5; have h6 := h 6; have h7 := h 7; have h8 := h 8; have h9 := h 9
  have h10 := h 10; have h11 := h 11; have h12 := h 12; have h13 := h 13; have h14 := h 14
  clear h
  fin_cases n <;> norm_num [-not_lt] at h0 h1 h2 h3 h4 h5 h6 h7 h8 h9 h10 h11 h12 h13 h14 <;>
    constructor <;>
    simp [code, entry, bit0, bit1, bit2, bit3, h0, h1, h2, h3, h4, h5, h6, h7, h8, h9, h10, h11, h12, h13, h14, -not_lt]

/-- In a non-decreasing table the search answers the number of boundaries strictly below `y`. -/
theorem code_eq {b : Fin 15 → EReal} (hb : Monotone b) (y : EReal) : code b y = BitVec.ofNat 32 (below b y) :=
  (search_of_count b (fun _ => 0) y ⟨below b y, below_lt b y⟩ (lt_iff_below hb y)).1

/-- And it selects the table entry of that number. -/
theorem entry_eq {b : Fin 15 → EReal} (hb : Monotone b) (t : Fin 16 → EReal) (y : EReal) :
    entry t b y = t ⟨below b y, below_lt b y⟩ :=
  (search_of_count b t y ⟨below b y, below_lt b y⟩ (lt_iff_below hb y)).2

end Cert.Search

end
-- ==== Proof.KernelBlock.lean ====
/-
  What one grid point of each of the two calls computes over the extended reals, element by element: the first call's codes
  and table entries are the halving search of its product's entry; the second call's block is a product with a transpose.
-/
module

public import proofs.«01_k».proof.Proof.Gen.KernelIdeal.Frame
public import proofs.«01_k».proof.Proof.Search
public import Idealize.ShloMosaic.Lib.Pipeline.Value
public import Idealize.ShloMosaic.Lib.Pipeline.ValueKit
public import Idealize.ShloMosaic.Lib.ValueIdx
public import Idealize.ShloMosaic.Lib.MatmulPlain
public import Idealize.ShloMosaic.Lib.Tactic

@[expose] public section

set_option maxRecDepth 16384

noncomputable section

namespace Cert.KernelIdeal.Block

open Cert.KernelIdeal Cert.KernelIdeal.Gen
open Idealize.ShloMosaic Idealize.ShloMosaic.TcCoe Idealize.SL.Sem

/-- The two spellings of a zero offset on both axes agree. -/
theorem hz : (![0, 0] : Fin 2 → Nat) = fun _ => 0 := funext fun a => by fin_cases a <;> rfl

/-- The boundaries of a fifteen-element array, by position. -/
abbrev bounds (x : Vec Ideal S15 .f32) : Fin 15 → EReal := fun k => x (ix1 k)

/-- The entries of a sixteen-element array, by position. -/
abbrev table (x : Vec Ideal S16 .f32) : Fin 16 → EReal := fun k => x (ix1 k)

/-- One boundary read from the small memory is the array's element at that position. -/
theorem ld15 (x : Vec Ideal S15 .f32) (n : ℕ) (hn : n < 15) (inb) (h : 0 < (Rect.unit (s := S15) ![n] ![1] inb).shape.numel) :
    View.ld (Val := Elt Ideal) (e' := .f32) x (Rect.unit (s := S15) ![n] ![1] inb) (Shape.Idx.first h) = bounds x ⟨n, hn⟩ :=
  View.ld_unit_apply_of x _ _ _ _ _ fun a => by
    obtain rfl : a = 0 := Subsingleton.elim (α := Fin 1) _ _
    rfl

/-- One table entry read from the small memory is the array's element at that position. -/
theorem ld16 (x : Vec Ideal S16 .f32) (n : ℕ) (hn : n < 16) (inb) (h : 0 < (Rect.unit (s := S16) ![n] ![1] inb).shape.numel) :
    View.ld (Val := Elt Ideal) (e' := .f32) x (Rect.unit (s := S16) ![n] ![1] inb) (Shape.Idx.first h) = table x ⟨n, hn⟩ :=
  View.ld_unit_apply_of x _ _ _ _ _ fun a => by
    obtain rfl : a = 0 := Subsingleton.elim (α := Fin 1) _ _
    rfl

/-- The first call's product at an element: the sum over the 4096 contracted positions. -/
theorem product_apply (x2 : Vec Ideal S1024x4096 .f32) (x3 : Vec Ideal S4096x512 .bf16) (y : S1024x512.Idx) :
    k0_pay2 x2 x3 y = ∑ k : Fin 4096, x2 (ix2 (y 0) k) * x3 (ix2 k (y 1)) := by
  unfold k0_pay2
  pointwise

section
variable (c : Dev nD) (i : grid0.Coords) (arg2 : Memref sig .tc .smem S15 .f32) (h2 : arg2.IsWhole) (arg3 : Memref sig .tc .smem S16 .f32) (h3 : arg3.IsWhole)
    (arg4 : Memref sig .tc .vmem S1024x4096 .f32) (h4 : arg4.IsWhole) (arg5 : Memref sig .tc .vmem S4096x512 .bf16) (h5 : arg5.IsWhole)
    (arg6 : Memref sig .tc .vmem S1024x512 .i32) (h6 : arg6.IsWhole) (arg7 : Memref sig .tc .vmem S1024x512 .bf16) (h7 : arg7.IsWhole)
    (x0 : Vec Ideal S15 .f32) (x1 : Vec Ideal S16 .f32) (x2 : Vec Ideal S1024x4096 .f32) (x3 : Vec Ideal S4096x512 .bf16)

/-- The first call's code at an element of its block is the search's answer for the product there. -/
theorem codes_block (y : S1024x512.Idx) :
    out0_A_4 c i arg2 h2 arg3 h3 arg4 h4 arg5 h5 arg6 h6 arg7 h7 x0 x1 x2 x3 y
      = Search.code (bounds x0) (∑ k : Fin 4096, x2 (ix2 (y 0) k) * x3 (ix2 k (y 1))) := by
  unfold out0_A_4
  rw [View.read_writes_eq_canon _ _ _ (cover0_A_4 c i arg2 h2 arg3 h3 arg4 h4 arg5 h5 arg6 h6 arg7 h7 x0 x1 x2 x3)]
  unfold kernelRun0_A
  dsimp only
  sl_unfold_words
  rw [View.canon_unit_zero hz]
  simp only [View.readAt_eq_ld, h2.read_unread, h3.read_unread, h4.read_unread, h5.read_unread, View.ld_unit_zero (S := S1024x4096) hz, View.ld_unit_zero (S := S4096x512) hz, shapeCast_self]
  rw [ld15 x0 7 (by omega), ld15 x0 11 (by omega), ld15 x0 3 (by omega), ld15 x0 13 (by omega), ld15 x0 9 (by omega),
    ld15 x0 5 (by omega), ld15 x0 1 (by omega), ld15 x0 14 (by omega), ld15 x0 12 (by omega), ld15 x0 10 (by omega),
    ld15 x0 8 (by omega), ld15 x0 6 (by omega), ld15 x0 4 (by omega), ld15 x0 2 (by omega), ld15 x0 0 (by omega)]
  rw [← product_apply x2 x3 y]
  rfl

/-- The first call's table entry at an element of its block is the one the search selects for the product there. -/
theorem entries_block (y : S1024x512.Idx) :
    out0_A_5 c i arg2 h2 arg3 h3 arg4 h4 arg5 h5 arg6 h6 arg7 h7 x0 x1 x2 x3 y
      = Search.entry (table x1) (bounds x0) (∑ k : Fin 4096, x2 (ix2 (y 0) k) * x3 (ix2 k (y 1))) := by
  unfold out0_A_5
  rw [View.read_writes_eq_canon _ _ _ (cover0_A_5 c i arg2 h2 arg3 h3 arg4 h4 arg5 h5 arg6 h6 arg7 h7 x0 x1 x2 x3)]
  unfold kernelRun0_A
  dsimp only
  sl_unfold_words
  rw [View.canon_unit_zero hz]
  simp only [View.readAt_eq_ld, h2.read_unread, h3.read_unread, h4.read_unread, h5.read_unread, View.ld_unit_zero (S := S1024x4096) hz, View.ld_unit_zero (S := S4096x512) hz, shapeCast_self]
  rw [ld15 x0 7 (by omega), ld15 x0 11 (by omega), ld15 x0 3 (by omega), ld15 x0 13 (by omega), ld15 x0 9 (by omega),
    ld15 x0 5 (by omega), ld15 x0 1 (by omega), ld15 x0 14 (by omega), ld15 x0 12 (by omega), ld15 x0 10 (by omega),
    ld15 x0 8 (by omega), ld15 x0 6 (by omega), ld15 x0 4 (by omega), ld15 x0 2 (by omega), ld15 x0 0 (by omega)]
  rw [ld16 x1 15 (by omega), ld16 x1 14 (by omega), ld16 x1 13 (by omega), ld16 x1 12 (by omega), ld16 x1 11 (by omega),
    ld16 x1 10 (by omega), ld16 x1 9 (by omega), ld16 x1 8 (by omega), ld16 x1 7 (by omega), ld16 x1 6 (by omega),
    ld16 x1 5 (by omega), ld16 x1 4 (by omega), ld16 x1 3 (by omega), ld16 x1 2 (by omega), ld16 x1 1 (by omega), ld16 x1 0 (by omega)]
  rw [← product_apply x2 x3 y]
  rfl

end

/-- The second call's block at an element: a row of one operand against a row of the other. -/
theorem unrotate_block (x0 x1 : Vec Ideal S1024x4096 .bf16) (y : S1024x1024.Idx) :
    out1_2 x0 x1 y = ∑ k : Fin 4096, x0 (ix2 (y 0) k) * x1 (ix2 (y 1) k) := by
  unfold out1_2
  rw [View.canon_unit_zero hz]
  simp only [View.ld_unit_zero (S := S1024x4096) hz]
  unfold k1_pay1
  pointwise

end Cert.KernelIdeal.Block

end
-- ==== Proof.KernelRun.lean ====
/-
  What one execution of the kernel leaves in its two result arrays, as the pipelines' own final array contents.
-/
module

public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reconstruction array at the end is what the second call's write-backs leave in it. -/
theorem W3_xhat (c : Dev nD) : W3 m ρ c (Proc.devRef .tc main_v2) = (dat1 (V2 m ρ) c).arrAt 2 cfg1.N :=
  W3_arr m ρ c 2

/-- The code array at the end is what the first call's write-backs leave in it: the second call does not touch it. -/
theorem W3_codes (c : Dev nD) : W3 m ρ c (Proc.devRef .tc main_v1_0) = (dat0 (V1 m ρ) c).arrAt 4 cfg0.N :=
  (W3_of_ne m ρ c main_v1_0 (by decide)).trans (W2_arr m ρ c 4)

set_option backward.isDefEq.respectTransparency.types false in
/-- Every execution of the kernel ends, and then the reconstruction array holds what the second call wrote, the code array
    what the first call wrote, and the four arguments are unchanged. -/
theorem results : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_v1_0) = (dat0 (V1 m ρ) c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v2 (by decide))).trans (W3_xhat m ρ c),
       (h c _ (mem_uc main_v1_0 (by decide))).trans (W3_codes m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Gen

end
-- ==== Proof.KernelArrays.lean ====
/-
  What the kernel's two calls leave in whole arrays, over the extended reals: the codes, the table entries and the
  reconstruction as functions of the launch's arguments.
-/
module

public import proofs.«01_k».proof.Proof.KernelBlock
public import proofs.«01_k».proof.Proof.KernelRun
public import Idealize.ShloMosaic.Lib.Claim

@[expose] public section

set_option maxRecDepth 16384

noncomputable section

namespace Cert.KernelIdeal.Arrays

open Cert.KernelIdeal Cert.KernelIdeal.Gen Cert.KernelIdeal.Block
open Idealize.ShloMosaic Idealize.ShloMosaic.TcCoe Idealize.SL.Sem

/-- The rotated input `x @ Pi` at an element. -/
abbrev rotated (x : Vec Ideal S8192x4096 .f32) (p : Vec Ideal S4096x4096 .f32) (i : S8192x4096.Idx) : EReal :=
  ∑ k : Fin 4096, x (ix2 (i 0) k) * p (ix2 k (i 1))

/-- The code array: at each element the search's answer for the rotated input. -/
def codes (x : Vec Ideal S8192x4096 .f32) (p : Vec Ideal S4096x4096 .f32) (b : Vec Ideal S15 .f32) : Vec Ideal S8192x4096 .i32 :=
  fun i => Search.code (bounds b) (rotated x p i)

/-- The selected table entries: at each element the entry the search selects for the rotated input. -/
def entries (x : Vec Ideal S8192x4096 .f32) (p : Vec Ideal S4096x4096 .f32) (t : Vec Ideal S16 .f32) (b : Vec Ideal S15 .f32) :
    Vec Ideal S8192x4096 .f32 :=
  fun i => Search.entry (table t) (bounds b) (rotated x p i)

/-- The product with a transpose, `e @ Pi.T`, at each element. -/
def unrotated (e : Vec Ideal S8192x4096 .f32) (p : Vec Ideal S4096x4096 .f32) : Vec Ideal S8192x4096 .f32 :=
  fun i => ∑ k : Fin 4096, e (ix2 (i 0) k) * p (ix2 (i 1) k)

section Regions

variable (V : (c : Dev nD) → (b : Ref sig .tc) → Buf (Elt Ideal) ((c : Thread nD τ).loc b)) (c : Dev nD)

/-- Which block of the input the first call reads at a grid point: the row block of its first coordinate. -/
theorem index0_2 : ∀ t : Fin cfg0.N, win0_2.index t = ![(grid0.coords t 0).val, 0] := (by decide +kernel : ∀ t : Fin grid0.N, _)
/-- Which block of the rotation the first call reads: the column block of its second coordinate. -/
theorem index0_3 : ∀ t : Fin cfg0.N, win0_3.index t = ![0, (grid0.coords t 1).val] := (by decide +kernel : ∀ t : Fin grid0.N, _)
/-- Which block of the codes the first call writes: that row block and that column block. -/
theorem index0_4 : ∀ t : Fin cfg0.N, win0_4.index t = ![(grid0.coords t 0).val, (grid0.coords t 1).val] := (by decide +kernel : ∀ t : Fin grid0.N, _)
/-- Which block of the table entries the first call writes: that row block and that column block. -/
theorem index0_5 : ∀ t : Fin cfg0.N, win0_5.index t = ![(grid0.coords t 0).val, (grid0.coords t 1).val] := (by decide +kernel : ∀ t : Fin grid0.N, _)
/-- The boundaries are one block, the same at every grid point. -/
theorem index0_0 : ∀ t : Fin cfg0.N, win0_0.index t = ![0] := (by decide +kernel : ∀ t : Fin grid0.N, _)
/-- The table is one block, the same at every grid point. -/
theorem index0_1 : ∀ t : Fin cfg0.N, win0_1.index t = ![0] := (by decide +kernel : ∀ t : Fin grid0.N, _)
/-- Which block of the table entries the second call reads: the row block of its first coordinate. -/
theorem index1_0 : ∀ t : Fin cfg1.N, win1_0.index t = ![(grid1.coords t 0).val, 0] := (by decide +kernel : ∀ t : Fin grid1.N, _)
/-- Which block of the rotation the second call reads: the row block of its second coordinate. -/
theorem index1_1 : ∀ t : Fin cfg1.N, win1_1.index t = ![(grid1.coords t 1).val, 0] := (by decide +kernel : ∀ t : Fin grid1.N, _)
/-- Which block of the reconstruction the second call writes: the row and the column block of its two coordinates. -/
theorem index1_2 : ∀ t : Fin cfg1.N, win1_2.index t = ![(grid1.coords t 0).val, (grid1.coords t 1).val] := (by decide +kernel : ∀ t : Fin grid1.N, _)

/-- The boundaries' block is the whole array of boundaries at every point. -/
theorem bounds_blk (t : Fin cfg0.N) : bounds (iblk0 V c 0 t) = bounds (V c main_arg3) := by
  funext k
  show iblk0 V c 0 t (ix1 k) = V c main_arg3 (ix1 k)
  blk_ext [iblk0, index0_0 t]

/-- The table's block is the whole table at every point. -/
theorem table_blk (t : Fin cfg0.N) : table (iblk0 V c 1 t) = table (V c main_arg2) := by
  funext k
  show iblk0 V c 1 t (ix1 k) = V c main_arg2 (ix1 k)
  blk_ext [iblk0, index0_1 t]

/-- The first call leaves the codes in its first result array. -/
theorem codes_final : (dat0 V c).arrAt 4 cfg0.N = codes (V c main_arg0) (V c main_v0) (V c main_arg3) := by
  refine (dat0 V c).arrAt_eq_of_covers 4 _ (by decide +kernel) fun t hf y => ?_
  blk_simp
  rw [after0_4]
  unfold outsAt0 codes
  dsimp only
  rw [codes_block, bounds_blk]
  refine congrArg _ (Finset.sum_congr rfl fun k _ => ?_)
  congr 1 <;> blk_ext [iblk0, index0_2 t, index0_3 t, index0_4 t]

/-- The first call leaves the selected table entries in its second result array. -/
theorem entries_final : (dat0 V c).arrAt 5 cfg0.N = entries (V c main_arg0) (V c main_v0) (V c main_arg2) (V c main_arg3) := by
  refine (dat0 V c).arrAt_eq_of_covers 5 _ (by decide +kernel) fun t hf y => ?_
  blk_simp
  rw [after0_5]
  unfold outsAt0 entries
  dsimp only
  rw [entries_block, bounds_blk, table_blk]
  refine congrArg _ (Finset.sum_congr rfl fun k _ => ?_)
  congr 1 <;> blk_ext [iblk0, index0_2 t, index0_3 t, index0_5 t]

/-- The second call leaves the product with the transpose in its result array. -/
theorem unrotated_final : (dat1 V c).arrAt 2 cfg1.N = unrotated (V c main_v1_1) (V c main_v0) := by
  refine (dat1 V c).arrAt_eq_of_covers 2 _ (by decide +kernel) fun t hf y => ?_
  blk_simp
  rw [after1_2]
  unfold unrotated
  refine (unrotate_block _ _ _).trans (Finset.sum_congr rfl fun k _ => ?_)
  congr 1 <;> blk_ext [iblk1, index1_0 t, index1_1 t, index1_2 t]

end Regions

/-! ## From the launch's arguments -/

variable (m : (ℓ : Loc nD τ sig) → Buf (Elt Ideal) ℓ) (ρ : Dev nD → PrngReg) (c : Dev nD)

/-- The host's copy of the rotation in the narrower format holds, over the extended reals, the rotation itself. -/
theorem V1_rotation : V1 m ρ c main_v0 = m ((c : Thread nD τ).loc main_arg1) := by
  show StableHlo.after hostOps0 (W0 m ρ c) (Proc.devRef .tc main_v0) = _
  after_results
  rfl

/-- The first call finds the launch's arguments as they were given. -/
theorem V1_args (a : Ref sig .tc) (ha : a ∈ argRefs) : V1 m ρ c a = m ((c : Thread nD τ).loc a) := W1_args m ρ c a ha

/-- The second call finds that copy as the first call found it. -/
theorem V2_rotation : V2 m ρ c main_v0 = m ((c : Thread nD τ).loc main_arg1) :=
  (W2_of m ρ c main_v0 (by decide)).trans (V1_rotation m ρ c)

/-- The codes the kernel leaves, from its arguments. -/
theorem codes_result : (dat0 (V1 m ρ) c).arrAt 4 cfg0.N
    = codes (m ((c : Thread nD τ).loc main_arg0)) (m ((c : Thread nD τ).loc main_arg1)) (m ((c : Thread nD τ).loc main_arg3)) := by
  rw [codes_final, V1_rotation, V1_args m ρ c main_arg0 (by decide), V1_args m ρ c main_arg3 (by decide)]

/-- The table entries the first call hands the second, from the kernel's arguments. -/
theorem V2_entries : V2 m ρ c main_v1_1
    = entries (m ((c : Thread nD τ).loc main_arg0)) (m ((c : Thread nD τ).loc main_arg1)) (m ((c : Thread nD τ).loc main_arg2))
        (m ((c : Thread nD τ).loc main_arg3)) := by
  refine (W2_arr m ρ c 5).trans ?_
  rw [entries_final, V1_rotation, V1_args m ρ c main_arg0 (by decide), V1_args m ρ c main_arg2 (by decide), V1_args m ρ c main_arg3 (by decide)]

/-- The reconstruction the kernel leaves, from its arguments. -/
theorem xhat_result : (dat1 (V2 m ρ) c).arrAt 2 cfg1.N
    = unrotated (entries (m ((c : Thread nD τ).loc main_arg0)) (m ((c : Thread nD τ).loc main_arg1)) (m ((c : Thread nD τ).loc main_arg2))
        (m ((c : Thread nD τ).loc main_arg3))) (m ((c : Thread nD τ).loc main_arg1)) := by
  rw [unrotated_final, V2_entries, V2_rotation]

end Cert.KernelIdeal.Arrays

end
-- ==== Proof.RefValue.lean ====
/-
  What the reference computes over the extended reals, element by element: its codes count the boundaries below the
  rotated input, its take reads the table at that count, and its second product is with the transpose.
-/
module

public import proofs.«01_k».proof.Proof.Gen.ReferenceIdeal.Run
public import proofs.«01_k».proof.Proof.Search
public import Idealize.ShloMosaic.Lib.ReduceAll
public import Idealize.ShloMosaic.Lib.ValueIdx
public import Idealize.ShloMosaic.Lib.MatmulPlain
public import Idealize.ShloMosaic.Lib.StableHlo.Predicate
public import Idealize.ShloMosaic.Lib.Quiescent
public import Idealize.ShloMosaic.Lib.Pointwise
public import Idealize.ShloMosaic.Lib.Tactic

@[expose] public section

set_option maxRecDepth 16384

noncomputable section

namespace Cert.ReferenceIdeal.Spec

open Cert.ReferenceIdeal Cert.ReferenceIdeal.Gen
open Idealize.ShloMosaic Idealize.ShloMosaic.TcCoe Idealize.SL.Sem Idealize.ShloMosaic.StableHlo.Predicate

/-! ## The count over the last axis -/

/-- The sum over the last axis of a widened box of bits is, at an element, the number of bits set there. -/
theorem toNat_count (mask : IVec S8192x4096x15 1) (hw : 1 < 32) (h : S8192x4096x15.ReducesTo [2] S8192x4096)
    (hu : 0 < S_.numel) (i : S8192x4096.Idx) :
    (Host.reduce IntOp.addi (extui 32 mask hw) (constantI S_ 32 0#32) h hu i).toNat
      = (Finset.univ.filter fun k : Fin 15 => mask (ix3 (i 0) (i 1) k) = 1#1).card := by
  classical
  have hdrop : ∀ j : S8192x4096x15.Idx, h.drop j = i ↔ j 0 = i 0 ∧ j 1 = i 1 := fun j => by
    have h0 : (h.drop j 0 : ℕ) = j 0 := Shape.ReducesTo.drop_apply_val h j 0
    have h1 : (h.drop j 1 : ℕ) = j 1 := Shape.ReducesTo.drop_apply_val h j 1
    refine ⟨fun e => ?_, fun e => funext fun a => ?_⟩
    · rw [e] at h0 h1
      exact ⟨Fin.ext h0.symm, Fin.ext h1.symm⟩
    · fin_cases a
      · exact Fin.ext (h0.trans (congrArg Fin.val e.1))
      · exact Fin.ext (h1.trans (congrArg Fin.val e.2))
  have hsum : ∑ j ∈ Finset.univ.filter (fun j => h.drop j = i), (extui 32 mask hw j).toNat
      = (Finset.univ.filter fun k : Fin 15 => mask (ix3 (i 0) (i 1) k) = 1#1).card := by
    have hset : (Finset.univ.filter fun j => h.drop j = i)
        = Finset.univ.map ⟨fun k : Fin 15 => (ix3 (i 0) (i 1) k : S8192x4096x15.Idx), fun k l e => congrFun e 2⟩ := by
      ext j
      rw [Finset.mem_filter, Finset.mem_map, hdrop]
      refine ⟨fun e => ⟨j 2, Finset.mem_univ _, funext fun a => ?_⟩, ?_⟩
      · fin_cases a
        · exact e.2.1.symm
        · exact e.2.2.symm
        · rfl
      · rintro ⟨k, -, rfl⟩
        exact ⟨Finset.mem_univ _, rfl, rfl⟩
    rw [hset, Finset.sum_map, Finset.card_filter]
    exact Finset.sum_congr rfl fun k _ => toNat_setWidth_bit _
  rw [Host.reduce_eq_fold]
  refine (toNat_fold_addi _ _ ?_).trans hsum
  exact hsum ▸ lt_of_le_of_lt (Finset.card_le_univ _) (by rw [Fintype.card_fin]; decide)

/-! ## The codes -/

/-- The reference's codes as printed: the sum over the last axis of the comparisons of boundaries with `x @ Pi`. -/
def indices (x : FVec Ideal S8192x4096 .f32) (p : FVec Ideal S4096x4096 .f32) (b : FVec Ideal S15 .f32) : IVec S8192x4096 32 :=
  Host.reduce IntOp.addi (extui 32 (cmpf .olt
      (broadcastInDim S8192x4096x15 ![0, 1, 2] bcast_S1x1x15_S8192x4096x15_0_1_2 (broadcastInDim S1x1x15 ![2] bcast_S15_S1x1x15_2 b))
      (broadcastInDim S8192x4096x15 ![0, 1, 2] bcast_S8192x4096x1_S8192x4096x15_0_1_2
        (broadcastInDim S8192x4096x1 ![0, 1] bcast_S8192x4096_S8192x4096x1_0_1
          (Host.dotGeneral dot_S8192x4096_S4096x4096_S8192x4096_1_0_0_1_n_n none x p)))) natLt_1_32)
    (constantI S_ 32 0#32) reducesTo_S8192x4096x15_S8192x4096_d2 h_S_

/-- The printed product at an element: the sum over the contracted axis. -/
theorem product_apply (x : FVec Ideal S8192x4096 .f32) (p : FVec Ideal S4096x4096 .f32) (i : S8192x4096.Idx) :
    Host.dotGeneral dot_S8192x4096_S4096x4096_S8192x4096_1_0_0_1_n_n none x p i
      = ∑ k : Fin 4096, (x (ix2 (i 0) k) * p (ix2 k (i 1)) : EReal) := by
  pointwise

/-- One comparison's bit: boundary `k` against the rotated input. -/
theorem mask_apply (y : FVec Ideal S8192x4096 .f32) (b : FVec Ideal S15 .f32) (i : Fin 8192) (j : Fin 4096) (k : Fin 15) :
    cmpf .olt
      (broadcastInDim S8192x4096x15 ![0, 1, 2] bcast_S1x1x15_S8192x4096x15_0_1_2 (broadcastInDim S1x1x15 ![2] bcast_S15_S1x1x15_2 b))
      (broadcastInDim S8192x4096x15 ![0, 1, 2] bcast_S8192x4096x1_S8192x4096x15_0_1_2
        (broadcastInDim S8192x4096x1 ![0, 1] bcast_S8192x4096_S8192x4096x1_0_1 y)) (ix3 i j k)
      = BitVec.ofBool (decide ((b (ix1 k) : EReal) < y (ix2 i j))) := by
  pointwise

/-- The reference's code at an element is the number of boundaries below the rotated input there. -/
theorem indices_apply (x : FVec Ideal S8192x4096 .f32) (p : FVec Ideal S4096x4096 .f32) (b : FVec Ideal S15 .f32)
    (i : S8192x4096.Idx) :
    indices x p b i = BitVec.ofNat 32 (Search.below (fun k => (b (ix1 k) : EReal))
      (∑ k : Fin 4096, (x (ix2 (i 0) k) * p (ix2 k (i 1)) : EReal))) := by
  have h : (indices x p b i).toNat = Search.below (fun k => (b (ix1 k) : EReal))
      (∑ k : Fin 4096, (x (ix2 (i 0) k) * p (ix2 k (i 1)) : EReal)) := by
    refine (toNat_count _ natLt_1_32 reducesTo_S8192x4096x15_S8192x4096_d2 h_S_ i).trans ?_
    refine congrArg Finset.card (Finset.filter_congr fun k _ => ?_)
    refine (iff_of_eq (congrArg (· = 1#1) (mask_apply _ b (i 0) (i 1) k))).trans ?_
    rw [ofBool_eq_one_iff, decide_eq_true_iff, product_apply]
    exact Iff.rfl
  rw [← h, BitVec.ofNat_toNat, BitVec.setWidth_eq]

/-! ## The take -/

/-- The positions of the reference's take as printed: those below zero have the table's length added. -/
def column (v : IVec S8192x4096 32) : IVec S8192x4096x1 32 :=
  broadcastInDim S8192x4096x1 ![0, 1] bcast_S8192x4096_S8192x4096x1_0_1
    (select (cmpi .slt v (broadcastInDim S8192x4096 ![] bcast_S_S8192x4096 (constantI S_ 32 0#32)))
      (addi v (broadcastInDim S8192x4096 ![] bcast_S_S8192x4096 (constantI S_ 32 16#32))) v)

/-- The reference's take as printed: the table read at the positions, a NaN where a position is out of range. -/
def taken (t : FVec Ideal S16 .f32) (v : IVec S8192x4096 32) : FVec Ideal S8192x4096 .f32 :=
  select (Host.reduce IntOp.andi (andi
        (cmpi .sge (column v) (broadcastInDim S8192x4096x1 ![] bcast_S_S8192x4096x1 (constantI S_ 32 0#32)))
        (cmpi .sle (column v) (broadcastInDim S8192x4096x1 ![0, 1, 2] bcast_S1x1x1_S8192x4096x1_0_1_2
          (broadcastInDim S1x1x1 ![2] bcast_S1_S1x1x1_2 (constantI S1 32 15#32)))))
      (constantI S_ 1 1#1) reducesTo_S8192x4096x1_S8192x4096_d2 h_S_)
    (Host.gather gather_S16_S8192x4096x1_S8192x4096_n_0_n_n_0_2_1 t (column v))
    (broadcastInDim S8192x4096 ![] bcast_S_S8192x4096 (constant S_ .f32 0x7FC00000#32))

/-- A word below sixteen is not negative, and lies in the table's range. -/
theorem small (n : Fin 16) : IntOp.cmpi .slt (BitVec.ofNat 32 n) 0#32 = 0#1 ∧ IntOp.cmpi .sge (BitVec.ofNat 32 n) 0#32 = 1#1
    ∧ IntOp.cmpi .sle (BitVec.ofNat 32 n) 15#32 = 1#1 ∧ (BitVec.ofNat 32 n).toInt.toNat = n := by
  revert n; decide

/-- Where the codes are below sixteen, the positions are the codes. -/
theorem column_apply (v : IVec S8192x4096 32) (n : S8192x4096.Idx → Fin 16) (h : ∀ i, v i = BitVec.ofNat 32 (n i))
    (i : Fin 8192) (j : Fin 4096) (k : Fin 1) : column v (ix3 i j k) = BitVec.ofNat 32 (n (ix2 i j)) := by
  unfold column
  pointwise
  rw [h (ix2 i j), (small _).1]
  rfl

/-- Where the codes are below sixteen, the gather reads the table at the code. -/
theorem gather_apply (t : FVec Ideal S16 .f32) (v : IVec S8192x4096 32) (n : S8192x4096.Idx → Fin 16)
    (h : ∀ i, v i = BitVec.ofNat 32 (n i)) (i : S8192x4096.Idx) :
    Host.gather gather_S16_S8192x4096x1_S8192x4096_n_0_n_n_0_2_1 t (column v) i = t (ix1 (n i)) := by
  set d := gather_S16_S8192x4096x1_S8192x4096_n_0_n_n_0_2_1 with hd
  have hm : (0 : Fin S16.rank) ∈ d.startIndexMap := List.mem_singleton.2 rfl
  have hb : (0 : Fin S16.rank) ∉ d.operandBatchingDims := List.not_mem_nil
  have hk : (0 : Fin S16.rank) ∉ d.sKept := by decide
  have hpos : d.siIdx i ⟨d.startIndexMap.idxOf 0, List.idxOf_lt_length_iff.2 hm⟩ = ix3 (i 0) (i 1) 0 := by
    funext e
    fin_cases e
    · exact Fin.ext rfl
    · exact Fin.ext rfl
    · exact Fin.ext rfl
  have hs : d.start i (column v) 0 = n i := by
    unfold GatherDims.start
    rw [dif_pos hm, hpos]
    refine (congrArg (fun w => min (BitVec.toInt w).toNat (S16.size 0 - d.sliceSizes 0)) (column_apply v n h (i 0) (i 1) 0)).trans ?_
    rw [(small _).2.2.2]
    refine (Nat.min_eq_left (Nat.le_of_lt_succ (n _).isLt)).trans ?_
    exact congrArg (fun j => (n j : ℕ)) (ix2_eta i)
  refine congrArg t (funext fun a => Fin.ext ?_)
  obtain rfl : a = 0 := Subsingleton.elim (α := Fin 1) _ _
  show d.start i (column v) 0 + d.batchCoord i 0 + d.offCoord i 0 = n i
  rw [hs, d.batchCoord_eq_zero _ _ hb, d.offCoord_eq_zero _ _ hk]
  rfl

/-- Where the codes are below sixteen, the reference's take reads the table at the code. -/
theorem taken_apply (t : FVec Ideal S16 .f32) (v : IVec S8192x4096 32) (n : S8192x4096.Idx → Fin 16)
    (h : ∀ i, v i = BitVec.ofNat 32 (n i)) (i : S8192x4096.Idx) : taken t v i = t (ix1 (n i)) := by
  have hr : Host.reduce IntOp.andi (andi
        (cmpi .sge (column v) (broadcastInDim S8192x4096x1 ![] bcast_S_S8192x4096x1 (constantI S_ 32 0#32)))
        (cmpi .sle (column v) (broadcastInDim S8192x4096x1 ![0, 1, 2] bcast_S1x1x1_S8192x4096x1_0_1_2
          (broadcastInDim S1x1x1 ![2] bcast_S1_S1x1x1_2 (constantI S1 32 15#32)))))
      (constantI S_ 1 1#1) reducesTo_S8192x4096x1_S8192x4096_d2 h_S_ i = 1#1 := by
    refine Host.reduce_andi_one _ _ _ _ i rfl fun j => ?_
    obtain ⟨a, b, c, rfl⟩ : ∃ (a : Fin 8192) (b : Fin 4096) (c : Fin 1), j = ix3 a b c := ⟨j 0, j 1, j 2, eq_ix3 j⟩
    pointwise
    rw [column_apply v n h, (small _).2.1, (small _).2.2.1]
    rfl
  refine Eq.trans ?_ (gather_apply t v n h i)
  unfold taken
  show Scalar.select _ _ _ = _
  rw [hr]
  rfl

/-! ## The two results -/

/-- The reference's reconstruction as printed: the product of the taken entries with the transpose. -/
def reconstruction (e : FVec Ideal S8192x4096 .f32) (p : FVec Ideal S4096x4096 .f32) : FVec Ideal S8192x4096 .f32 :=
  Host.dotGeneral dot_S8192x4096_S4096x4096_S8192x4096_1_0_0_1_n_n none e
    (transpose S4096x4096 [1, 0] p transposes_S4096x4096_S4096x4096_1_0)

/-- The product with a transpose at an element: the second factor is read by its rows. -/
theorem reconstruction_apply (e : FVec Ideal S8192x4096 .f32) (p : FVec Ideal S4096x4096 .f32) (i : S8192x4096.Idx) :
    reconstruction e p i = ∑ k : Fin 4096, (e (ix2 (i 0) k) * p (ix2 (i 1) k) : EReal) := by
  unfold reconstruction
  pointwise

/-- The reference's run: its two results as the functions above of the arguments, the arguments unchanged, and every
    counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD,
        r.2.mem ((c.tc : Thread nD τ).loc main_v10)
          = reconstruction (taken (m ((c.tc : Thread nD τ).loc main_arg2)) (indices (m ((c.tc : Thread nD τ).loc main_arg0))
              (m ((c.tc : Thread nD τ).loc main_arg1)) (m ((c.tc : Thread nD τ).loc main_arg3)))) (m ((c.tc : Thread nD τ).loc main_arg1))
        ∧ r.2.mem ((c.tc : Thread nD τ).loc main_v7) = indices (m ((c.tc : Thread nD τ).loc main_arg0))
              (m ((c.tc : Thread nD τ).loc main_arg1)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run (defs (F := Ideal)) _ _).mono
    (fun r h => ⟨fun c => ⟨(h c).1.trans (by unfold Value.res_main_v10; rfl), (h c).2⟩, sem_eq_zero_of_no_sems rfl r.2⟩)
    (Value.run m ρ)

end Cert.ReferenceIdeal.Spec

end
-- ==== Proof.Equation.lean ====
/-
  The equation: where the boundaries do not decrease, what the kernel leaves is what the reference computes.
-/
module

public import proofs.«01_k».proof.Proof.KernelArrays
public import proofs.«01_k».proof.Proof.RefValue

@[expose] public section

set_option maxRecDepth 16384

noncomputable section

namespace Cert.Equation

open Cert.KernelIdeal Cert.KernelIdeal.Block Cert.KernelIdeal.Arrays
open Idealize.ShloMosaic

/-- The kernel's code array is the reference's. -/
theorem codes_eq (x : Vec Ideal S8192x4096 .f32) (p : Vec Ideal S4096x4096 .f32) (b : Vec Ideal S15 .f32)
    (hb : Monotone (bounds b)) : codes x p b = Cert.ReferenceIdeal.Spec.indices x p b :=
  funext fun i => (Search.code_eq hb _).trans (Cert.ReferenceIdeal.Spec.indices_apply x p b i).symm

/-- The kernel's selected entries are the reference's take. -/
theorem entries_eq (x : Vec Ideal S8192x4096 .f32) (p : Vec Ideal S4096x4096 .f32) (t : Vec Ideal S16 .f32)
    (b : Vec Ideal S15 .f32) (hb : Monotone (bounds b)) :
    entries x p t b = Cert.ReferenceIdeal.Spec.taken t (Cert.ReferenceIdeal.Spec.indices x p b) :=
  funext fun i => (Search.entry_eq hb (table t) _).trans
    (Cert.ReferenceIdeal.Spec.taken_apply t _ (fun j => ⟨Search.below (bounds b) (rotated x p j), Search.below_lt _ _⟩)
      (fun j => Cert.ReferenceIdeal.Spec.indices_apply x p b j) i).symm

/-- The kernel's product with the transpose is the reference's. -/
theorem unrotated_eq (e : Vec Ideal S8192x4096 .f32) (p : Vec Ideal S4096x4096 .f32) :
    unrotated e p = Cert.ReferenceIdeal.Spec.reconstruction e p :=
  funext fun i => (Cert.ReferenceIdeal.Spec.reconstruction_apply e p i).symm

end Cert.Equation

end
-- ==== Proof.lean ====
/-
  The proof of `Cert.Claim`: the kernel's frame at bits and over the extended reals, the reference's frame, and the
  equality of both results, the codes and the reconstruction, where the boundaries do not decrease.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_sorted_boundaries
public import proofs.«01_k».proof.Proof.Sorted
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, its arguments end unchanged, and every counter ends at zero. -/
theorem reference_frame : quiescent_ReferenceIdeal := fun m g _ =>
  (θ_run (Cert.ReferenceIdeal.defs (F := Ideal)) _ _).mono (fun _ h => ⟨fun c => (h.1 c).2.2, h.2⟩)
    (Cert.ReferenceIdeal.Spec.run m g)

/-- Where the boundaries do not decrease, the kernel's two results are the reference's. -/
theorem results_equal : algebraic_KernelIdeal_ReferenceIdeal_pre_sorted_boundaries := by
  intro m g m' g' hpre hin
  refine ⟨_, _, (θ_run (Cert.KernelIdeal.defs (F := Ideal)) _ _).mono (fun r h c => ?_) (Cert.KernelIdeal.Gen.results m g),
    (θ_run (Cert.ReferenceIdeal.defs (F := Ideal)) _ _).mono (fun r h c => h.1 c) (Cert.ReferenceIdeal.Spec.run m' g')⟩
  have hb := Cert.Sorted.monotone _ _ _ _ (hpre c)
  obtain ⟨e0, e1, e2, e3⟩ := hin c
  rw [e0, e1, e2, e3]
  obtain ⟨h0, h1, ha⟩ := h c
  refine ⟨h0.trans ((Cert.KernelIdeal.Arrays.xhat_result m g c).trans ?_),
    h1.trans ((Cert.KernelIdeal.Arrays.codes_result m g c).trans (Cert.Equation.codes_eq _ _ _ hb)), ha⟩
  rw [Cert.Equation.entries_eq _ _ _ _ hb]
  exact Cert.Equation.unrotated_eq _ _

/-- Everything this certificate claims. -/
theorem claim : Cert.Claim := ⟨Cert.Kernel.Gen.facts, Cert.KernelIdeal.Gen.facts, Cert.ReferenceIdeal.Gen.facts, Cert.Pre_sorted_boundaries.Gen.facts,
  fun m g _ => Cert.Kernel.Gen.frame m g, fun m g _ => Cert.KernelIdeal.Gen.frame m g, fun m g _ => Cert.KernelIdeal.Gen.frame m g,
  reference_frame, fun m g _ => reference_frame m g trivial, trivial, results_equal⟩

end Cert.Proof

end
